-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x8192 : Shape := ⟨3, ![192, 1, 8192]⟩
abbrev S4096x7168 : Shape := ⟨2, ![4096, 7168]⟩
abbrev S64x7168 : Shape := ⟨2, ![64, 7168]⟩
abbrev S8192 : Shape := ⟨1, ![8192]⟩
abbrev S192x8192 : Shape := ⟨2, ![192, 8192]⟩
abbrev S8x1x1024 : Shape := ⟨3, ![8, 1, 1024]⟩
abbrev S192x7168 : Shape := ⟨2, ![192, 7168]⟩
abbrev S192x1024 : Shape := ⟨2, ![192, 1024]⟩
abbrev S512x512 : Shape := ⟨2, ![512, 512]⟩
abbrev S64x512 : Shape := ⟨2, ![64, 512]⟩
abbrev S1x1x1024 : Shape := ⟨3, ![1, 1, 1024]⟩
abbrev S192x512 : Shape := ⟨2, ![192, 512]⟩
abbrev S128x512 : Shape := ⟨2, ![128, 512]⟩
abbrev S128x8x512 : Shape := ⟨3, ![128, 8, 512]⟩
abbrev S128x1x512 : Shape := ⟨3, ![128, 1, 512]⟩
abbrev S1024x512 : Shape := ⟨2, ![1024, 512]⟩
abbrev S64x1024 : Shape := ⟨2, ![64, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S192x1x8192, .bf16⟩
  | .hbm, ⟨1, _⟩ => ⟨S4096x7168, .i8⟩
  | .hbm, ⟨2, _⟩ => ⟨S64x7168, .bf16⟩
  | .hbm, ⟨3, _⟩ => ⟨S8192, .i32⟩
  | .hbm, ⟨4, _⟩ => ⟨S192x8192, .bf16⟩
  | .hbm, ⟨5, _⟩ => ⟨S8x1x1024, .i32⟩
  | .hbm, ⟨6, _⟩ => ⟨S192x7168, .bf16⟩
  | .local _ .vmem, ⟨0, _⟩ => ⟨S192x1024, .bf16⟩
  | .local _ .vmem, ⟨1, _⟩ => ⟨S192x1024, .bf16⟩
  | .local _ .vmem, ⟨2, _⟩ => ⟨S512x512, .i8⟩
  | .local _ .vmem, ⟨3, _⟩ => ⟨S512x512, .i8⟩
  | .local _ .vmem, ⟨4, _⟩ => ⟨S64x512, .bf16⟩
  | .local _ .vmem, ⟨5, _⟩ => ⟨S64x512, .bf16⟩
  | .local _ .vmem, ⟨6, _⟩ => ⟨S1x1x1024, .i32⟩
  | .local _ .vmem, ⟨7, _⟩ => ⟨S1x1x1024, .i32⟩
  | .local _ .vmem, ⟨8, _⟩ => ⟨S192x512, .bf16⟩
  | .local _ .vmem, ⟨9, _⟩ => ⟨S192x512, .bf16⟩
  | .local _ .vmem, ⟨10, _⟩ => ⟨S192x512, .f32⟩
  | _, _ => ⟨S192x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![14, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S192x1x8192 : Shape := ⟨3, ![192, 1, 8192]⟩
abbrev S4096x7168 : Shape := ⟨2, ![4096, 7168]⟩
abbrev S64x7168 : Shape := ⟨2, ![64, 7168]⟩
abbrev S8192 : Shape := ⟨1, ![8192]⟩
abbrev S4096x2 : Shape := ⟨2, ![4096, 2]⟩
abbrev S2x4096 : Shape := ⟨2, ![2, 4096]⟩
abbrev S2x4096x1 : Shape := ⟨3, ![2, 4096, 1]⟩
abbrev S64 : Shape := ⟨1, ![64]⟩
abbrev S1x1x64 : Shape := ⟨3, ![1, 1, 64]⟩
abbrev S2x4096x64 : Shape := ⟨3, ![2, 4096, 64]⟩
abbrev S2x4096x7168 : Shape := ⟨3, ![2, 4096, 7168]⟩
abbrev S2 : Shape := ⟨1, ![2]⟩
abbrev S_ : Shape := ⟨0, ![]⟩
abbrev S1x4096x7168 : Shape := ⟨3, ![1, 4096, 7168]⟩
abbrev S2x1x1 : Shape := ⟨3, ![2, 1, 1]⟩
abbrev S192x4096x2 : Shape := ⟨3, ![192, 4096, 2]⟩
abbrev S2x192x4096 : Shape := ⟨3, ![2, 192, 4096]⟩
abbrev S192x7168 : Shape := ⟨2, ![192, 7168]⟩

abbrev nBuf : Space → Nat
  | .hbm => 37
  | .vmem => 0
  | .smem => 0
  | _ => 0

abbrev bufTy : (tb : Table) → Fin (tcTables nBuf tb) → BufTy
  | .hbm, ⟨0, _⟩ => ⟨S192x1x8192, .bf16⟩
  | .hbm, ⟨1, _⟩ => ⟨S4096x7168, .i8⟩
  | .hbm, ⟨2, _⟩ => ⟨S64x7168, .bf16⟩
  | .hbm, ⟨3, _⟩ => ⟨S8192, .i32⟩
  | .hbm, ⟨4, _⟩ => ⟨S4096x2, .i32⟩
  | .hbm, ⟨5, _⟩ => ⟨S2x4096, .i32⟩
  | .hbm, ⟨6, _⟩ => ⟨S2x4096x1, .i32⟩
  | .hbm, ⟨7, _⟩ => ⟨S64, .i32⟩
  | .hbm, ⟨8, _⟩ => ⟨S1x1x64, .i32⟩
  | .hbm, ⟨9, _⟩ => ⟨S2x4096x64, .i32⟩
  | .hbm, ⟨10, _⟩ => ⟨S2x4096x64, .i32⟩
  | .hbm, ⟨11, _⟩ => ⟨S2x4096x64, .i1⟩
  | .hbm, ⟨12, _⟩ => ⟨S2x4096x64, .bf16⟩
  | .hbm, ⟨13, _⟩ => ⟨S2x4096x7168, .f32⟩
  | .hbm, ⟨14, _⟩ => ⟨S2x4096x7168, .bf16⟩
  | .hbm, ⟨15, _⟩ => ⟨S2, .i32⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S4096x7168, .i32⟩
  | .hbm, ⟨20, _⟩ => ⟨S1x4096x7168, .i32⟩
  | .hbm, ⟨21, _⟩ => ⟨S2x1x1, .i32⟩
  | .hbm, ⟨22, _⟩ => ⟨S2x4096x7168, .i32⟩
  | .hbm, ⟨23, _⟩ => ⟨S2x4096x7168, .i32⟩
  | .hbm, ⟨24, _⟩ => ⟨S2x4096x7168, .i32⟩
  | .hbm, ⟨25, _⟩ => ⟨S_, .i32⟩
  | .hbm, ⟨26, _⟩ => ⟨S2x4096x7168, .i32⟩
  | .hbm, ⟨27, _⟩ => ⟨S2x4096x7168, .i32⟩
  | .hbm, ⟨28, _⟩ => ⟨S2x4096x7168, .bf16⟩
  | .hbm, ⟨29, _⟩ => ⟨S_, .bf16⟩
  | .hbm, ⟨30, _⟩ => ⟨S2x4096x7168, .bf16⟩
  | .hbm, ⟨31, _⟩ => ⟨S2x4096x7168, .bf16⟩
  | .hbm, ⟨32, _⟩ => ⟨S2x4096x7168, .bf16⟩
  | .hbm, ⟨33, _⟩ => ⟨S192x4096x2, .bf16⟩
  | .hbm, ⟨34, _⟩ => ⟨S2x192x4096, .bf16⟩
  | .hbm, ⟨35, _⟩ => ⟨S192x7168, .f32⟩
  | .hbm, ⟨36, _⟩ => ⟨S192x7168, .bf16⟩
  | _, _ => ⟨S192x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.Case.lean ====
module

public import proofs.«01_k».proof.Proof.Gen.KernelIdeal.Value
public import Idealize.ShloMosaic.Lib.Pipeline.ValueKit

/-! What one run of the kernel body leaves behind, in its three cases: the first of the eight points that share an
    output block (the accumulator is reset), a middle point, and the last one (the output block is written). In every
    case the accumulator ends at the body's own step of the four input blocks and of what the accumulator held before;
    the output block is that accumulator, rounded. -/

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]

/-- The offsets of a rank-2 access to a whole block are zero. -/
theorem hz2 : (![0, 0] : Fin 2 → Nat) = fun _ => 0 := funext fun a => by fin_cases a <;> rfl

/-- The offsets of a rank-3 access to a whole block are zero. -/
theorem hz3 : (![0, 0, 0] : Fin 3 → Nat) = fun _ => 0 := funext fun a => by fin_cases a <;> rfl

/-- At the first point of a run the accumulator ends at the step from the zero block. -/
theorem sout_A (c : Dev nD) (i : grid0.Coords) (arg2 : Memref sig .tc .vmem S192x1024 .bf16) (harg2 : arg2.IsWhole) (arg3 : Memref sig .tc .vmem S512x512 .i8) (harg3 : arg3.IsWhole)
    (arg4 : Memref sig .tc .vmem S64x512 .bf16) (harg4 : arg4.IsWhole) (arg5 : Memref sig .tc .vmem S1x1x1024 .i32) (harg5 : arg5.IsWhole)
    (arg6 : Memref sig .tc .vmem S192x512 .bf16) (harg6 : arg6.IsWhole) (arg7 : Memref sig .tc .vmem S192x512 .f32) (harg7 : arg7.IsWhole)
    (hc0 : cond0_0 i) (hc1 : ¬cond0_1 i) (x0 : Vec F S192x1024 .bf16) (x1 : Vec F S512x512 .i8) (x2 : Vec F S64x512 .bf16) (x3 : Vec F S1x1x1024 .i32) :
    sout0_A_0 c i arg2 harg2 arg3 harg3 arg4 harg4 arg5 harg5 arg6 harg6 arg7 harg7 hc0 hc1 x0 x1 x2 x3 = k0_pay3 x1 x3 x2 k0_pay2 x0 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S192x512) hz2, View.readCov_unit_zero (S := S192x512) _ hz2]
  simp only [View.readAt_eq_ld, harg2.read_unread, harg3.read_unread, harg4.read_unread, harg5.read_unread, harg7.read_unread, View.ld_unit_zero (S := S192x1024) hz2, View.ld_unit_zero (S := S512x512) hz2, View.ld_unit_zero (S := S64x512) hz2, View.ld_unit_zero (S := S1x1x1024) hz3, View.ld_unit_zero (S := S192x512) hz2]

/-- At a middle point the accumulator ends at the step from what it held. -/
theorem sout_B (c : Dev nD) (i : grid0.Coords) (arg2 : Memref sig .tc .vmem S192x1024 .bf16) (harg2 : arg2.IsWhole) (arg3 : Memref sig .tc .vmem S512x512 .i8) (harg3 : arg3.IsWhole)
    (arg4 : Memref sig .tc .vmem S64x512 .bf16) (harg4 : arg4.IsWhole) (arg5 : Memref sig .tc .vmem S1x1x1024 .i32) (harg5 : arg5.IsWhole)
    (arg6 : Memref sig .tc .vmem S192x512 .bf16) (harg6 : arg6.IsWhole) (arg7 : Memref sig .tc .vmem S192x512 .f32) (harg7 : arg7.IsWhole)
    (hc0 : ¬cond0_0 i) (hc1 : ¬cond0_1 i) (x0 : Vec F S192x1024 .bf16) (x1 : Vec F S512x512 .i8) (x2 : Vec F S64x512 .bf16) (x3 : Vec F S1x1x1024 .i32)
    (acc : Vec F S192x512 .f32) :
    sout0_B_0 c i arg2 harg2 arg3 harg3 arg4 harg4 arg5 harg5 arg6 harg6 arg7 harg7 hc0 hc1 x0 x1 x2 x3 acc = k0_pay3 x1 x3 x2 acc x0 := by
  unfold sout0_B_0
  rw [View.read_writes_eq_canon _ _ _ (scover0_B_0 c i arg2 harg2 arg3 harg3 arg4 harg4 arg5 harg5 arg6 harg6 arg7 harg7 hc0 hc1 x0 x1 x2 x3 acc)]
  unfold kernelRun0_B
  dsimp only
  sl_unfold_words
  rw [View.canon_unit_zero (S := S192x512) hz2]
  simp only [View.readAt_eq_ld, harg2.read_unread, harg3.read_unread, harg4.read_unread, harg5.read_unread, harg7.read_unread, View.ld_unit_zero (S := S192x1024) hz2, View.ld_unit_zero (S := S512x512) hz2, View.ld_unit_zero (S := S64x512) hz2, View.ld_unit_zero (S := S1x1x1024) hz3, View.ld_unit_zero (S := S192x512) hz2]

/-- At the last point of a run the accumulator ends at the step from what it held. -/
theorem sout_C (c : Dev nD) (i : grid0.Coords) (arg2 : Memref sig .tc .vmem S192x1024 .bf16) (harg2 : arg2.IsWhole) (arg3 : Memref sig .tc .vmem S512x512 .i8) (harg3 : arg3.IsWhole)
    (arg4 : Memref sig .tc .vmem S64x512 .bf16) (harg4 : arg4.IsWhole) (arg5 : Memref sig .tc .vmem S1x1x1024 .i32) (harg5 : arg5.IsWhole)
    (arg6 : Memref sig .tc .vmem S192x512 .bf16) (harg6 : arg6.IsWhole) (arg7 : Memref sig .tc .vmem S192x512 .f32) (harg7 : arg7.IsWhole)
    (hc0 : ¬cond0_0 i) (hc1 : cond0_1 i) (x0 : Vec F S192x1024 .bf16) (x1 : Vec F S512x512 .i8) (x2 : Vec F S64x512 .bf16) (x3 : Vec F S1x1x1024 .i32)
    (acc : Vec F S192x512 .f32) :
    sout0_C_0 c i arg2 harg2 arg3 harg3 arg4 harg4 arg5 harg5 arg6 harg6 arg7 harg7 hc0 hc1 x0 x1 x2 x3 acc = k0_pay3 x1 x3 x2 acc x0 := by
  unfold sout0_C_0
  rw [View.read_writes_eq_canon _ _ _ (scover0_C_0 c i arg2 harg2 arg3 harg3 arg4 harg4 arg5 harg5 arg6 harg6 arg7 harg7 hc0 hc1 x0 x1 x2 x3 acc)]
  unfold kernelRun0_C
  dsimp only
  sl_unfold_words
  rw [View.canon_unit_zero (S := S192x512) hz2]
  simp only [View.readAt_eq_ld, harg2.read_unread, harg3.read_unread, harg4.read_unread, harg5.read_unread, harg7.read_unread, View.ld_unit_zero (S := S192x1024) hz2, View.ld_unit_zero (S := S512x512) hz2, View.ld_unit_zero (S := S64x512) hz2, View.ld_unit_zero (S := S1x1x1024) hz3, View.ld_unit_zero (S := S192x512) hz2]

/-- At the last point of a run the output block is the accumulator after its step, rounded. -/
theorem out_C (c : Dev nD) (i : grid0.Coords) (arg2 : Memref sig .tc .vmem S192x1024 .bf16) (harg2 : arg2.IsWhole) (arg3 : Memref sig .tc .vmem S512x512 .i8) (harg3 : arg3.IsWhole)
    (arg4 : Memref sig .tc .vmem S64x512 .bf16) (harg4 : arg4.IsWhole) (arg5 : Memref sig .tc .vmem S1x1x1024 .i32) (harg5 : arg5.IsWhole)
    (arg6 : Memref sig .tc .vmem S192x512 .bf16) (harg6 : arg6.IsWhole) (arg7 : Memref sig .tc .vmem S192x512 .f32) (harg7 : arg7.IsWhole)
    (hc0 : ¬cond0_0 i) (hc1 : cond0_1 i) (x0 : Vec F S192x1024 .bf16) (x1 : Vec F S512x512 .i8) (x2 : Vec F S64x512 .bf16) (x3 : Vec F S1x1x1024 .i32)
    (acc : Vec F S192x512 .f32) :
    out0_C_4 c i arg2 harg2 arg3 harg3 arg4 harg4 arg5 harg5 arg6 harg6 arg7 harg7 hc0 hc1 x0 x1 x2 x3 acc = k0_pay1 (k0_pay3 x1 x3 x2 acc x0) := by
  unfold out0_C_4
  rw [View.read_writes_eq_canon _ _ _ (cover0_C_4 c i arg2 harg2 arg3 harg3 arg4 harg4 arg5 harg5 arg6 harg6 arg7 harg7 hc0 hc1 x0 x1 x2 x3 acc)]
  unfold kernelRun0_C
  dsimp only
  sl_unfold_words
  rw [View.canon_unit_zero (S := S192x512) hz2, View.readCov_unit_zero (S := S192x512) _ hz2]
  simp only [View.readAt_eq_ld, harg2.read_unread, harg3.read_unread, harg4.read_unread, harg5.read_unread, harg7.read_unread, View.ld_unit_zero (S := S192x1024) hz2, View.ld_unit_zero (S := S512x512) hz2, View.ld_unit_zero (S := S64x512) hz2, View.ld_unit_zero (S := S1x1x1024) hz3, View.ld_unit_zero (S := S192x512) hz2]

end Cert.KernelIdeal.Value
-- ==== Proof.Words.lean ====
module

public import Idealize.ShloMosaic.Lib.BitcastFour
public import Idealize.ShloMosaic.Lib.IdealHost

/-! The two word computations of the weight: a packed byte holds two 4-bit codes, and a code stands for itself minus
    eight. The kernel reads four bytes as one 32-bit word, flips the top bit of every 4-bit field, shifts a field to
    the bottom, cuts it to four bits and reads those as a signed number; the reference widens the byte, shifts, masks,
    reads the field as an unsigned number and subtracts eight. Both are `code`. Beside them the one-hot entry, which
    the two programs also write differently. -/

@[expose] public section

noncomputable section

open Idealize.ShloMosaic

namespace Cert.Quant

/-- The 4-bit field number `h` of a packed byte: the low half for `0`, the high half for `1`. -/
def nib (b : BitVec 8) (h : ℕ) : BitVec 4 := (b >>> (4 * h)).setWidth 4

/-- The number a 4-bit field of a packed byte stands for: the field read unsigned, minus eight. -/
def code (b : BitVec 8) (h : ℕ) : EReal := (((nib b h).toNat : ℝ) : EReal) - ((8 : ℝ) : EReal)

/-- One where the group index names group `g`, zero elsewhere. -/
def ind (a : BitVec 32) (g : ℕ) : EReal := if BitVec.ofNat 32 g = a then 1 else 0

/-- Four bits with the top one flipped, read signed, are the four bits read unsigned, minus eight. -/
theorem toInt_flip : ∀ x : BitVec 4, (x ^^^ 8#4).toInt = (x.toNat : ℤ) - 8 := by decide

/-- Field `i` of a word whose top field bits are flipped is the field of the byte it lies in, its top bit flipped. -/
theorem field_flip (w : BitVec 32) (b : BitVec 8) (i : ℕ) (hi : i < 8)
    (hw : ∀ q, q < 32 → q / 8 = i / 2 → w.getLsbD q = b.getLsbD (q % 8)) :
    ((w ^^^ 2290649224#32) >>> (4 * i)).setWidth 4 = nib b (i % 2) ^^^ 8#4 := by
  apply BitVec.eq_of_getLsbD_eq
  intro j hj
  have hm : (2290649224#32 : BitVec 32).getLsbD (4 * i + j) = (8#4 : BitVec 4).getLsbD j := by
    interval_cases i <;> interval_cases j <;> rfl
  have hwq := hw (4 * i + j) (by omega) (by omega)
  have hq : (4 * i + j) % 8 = 4 * (i % 2) + j := by omega
  rw [hq] at hwq
  simp only [nib, BitVec.getLsbD_setWidth, BitVec.getLsbD_xor, BitVec.getLsbD_ushiftRight, hm, hwq, hj, decide_true,
    Bool.true_and]

/-- The kernel's way to a code: field `i` of the flipped word, cut to four bits and read signed. -/
theorem code_kernel (w : BitVec 32) (b : BitVec 8) (i : ℕ) (hi : i < 8)
    (hw : ∀ q, q < 32 → q / 8 = i / 2 → w.getLsbD q = b.getLsbD (q % 8)) :
    FloatOps.sitofp (F := Ideal) .bf16
      (BitVec.setWidth 4 (IntOp.shrui .vector (IntOp.xori w 2290649224#32) (IntOp.muli 4#32 (BitVec.ofNat 32 i))))
      = code b (i % 2) := by
  have hs : (IntOp.muli 4#32 (BitVec.ofNat 32 i)).toNat = 4 * i := by
    simp only [IntOp.muli, BitVec.toNat_mul, BitVec.toNat_ofNat]; omega
  have e : IntOp.shrui .vector (IntOp.xori w 2290649224#32) (IntOp.muli 4#32 (BitVec.ofNat 32 i))
      = (w ^^^ 2290649224#32) >>> (4 * i) := by
    unfold IntOp.shrui
    rw [if_pos (by omega), BitVec.ushiftRight_eq', hs]
    rfl
  rw [e, field_flip w b i hi hw]
  show ((((nib b (i % 2) ^^^ 8#4).toInt : ℤ) : ℝ) : EReal) = _
  rw [toInt_flip, code, ← EReal.coe_sub]
  push_cast
  rfl

/-- The reference's field of a byte: widened to 32 bits, shifted and masked, it is the 4-bit field. -/
theorem field_mask : ∀ b : BitVec 8, ∀ h : Fin 2,
    ((b.setWidth 32 >>> (4 * h.val)) &&& 15#32).toNat = (nib b h.val).toNat := by decide +kernel

/-- The bf16 pattern `0x4100` is the real eight. -/
theorem ofBits_eight : Ideal.ofBits .bf16 0x4100#16 = ((8 : ℝ) : EReal) := by
  simp [Ideal.ofBits, Ideal.ieee, -EReal.coe_mul]; norm_num

/-- The reference's way to a code: the masked field read unsigned, minus eight. -/
theorem code_reference (b : BitVec 8) (h : Fin 2) :
    FloatOps.subf (F := Ideal) (FloatOps.uitofp (F := Ideal) .bf16
      (IntOp.andi (IntOp.shrui .host (b.setWidth 32) (IntOp.muli 4#32 (BitVec.ofNat 32 h.val))) 15#32))
      (FloatOps.ofBits (F := Ideal) .bf16 0x4100#16) = code b h.val := by
  have hs : (IntOp.muli 4#32 (BitVec.ofNat 32 h.val)).toNat = 4 * h.val := by
    simp only [IntOp.muli, BitVec.toNat_mul, BitVec.toNat_ofNat]; omega
  have e : IntOp.shrui .host (b.setWidth 32) (IntOp.muli 4#32 (BitVec.ofNat 32 h.val)) = b.setWidth 32 >>> (4 * h.val) := by
    unfold IntOp.shrui
    rw [if_pos (by omega), BitVec.ushiftRight_eq', hs]
  rw [e, Ideal.subf_def, Ideal.ofBits_def, ofBits_eight]
  show ((((b.setWidth 32 >>> (4 * h.val)) &&& 15#32).toNat : ℝ) : EReal) - _ = _
  rw [field_mask, code]

/-- The kernel's one-hot entry: the comparison's bit widened to a word and read signed. -/
theorem ind_kernel (a : BitVec 32) (g : ℕ) :
    FloatOps.sitofp (F := Ideal) .f32 (BitVec.setWidth 32 (IntOp.cmpi .eq (BitVec.ofNat 32 g) a)) = ind a g := by
  show ((((BitVec.ofBool (BitVec.ofNat 32 g == a)).setWidth 32).toInt : ℝ) : EReal) = _
  unfold ind
  by_cases h : BitVec.ofNat 32 g = a
  · rw [if_pos h, beq_iff_eq.mpr h]; simp
  · rw [if_neg h, beq_eq_false_iff_ne.mpr h]; simp

/-- The reference's one-hot entry: the comparison's bit read unsigned. -/
theorem ind_reference (a : BitVec 32) (g : ℕ) :
    FloatOps.uitofp (F := Ideal) .bf16 (IntOp.cmpi .eq a (BitVec.ofNat 32 g)) = ind a g := by
  show (((BitVec.ofBool (a == BitVec.ofNat 32 g)).toNat : ℝ) : EReal) = _
  unfold ind
  by_cases h : BitVec.ofNat 32 g = a
  · rw [if_pos h, beq_iff_eq.mpr h.symm]; simp
  · rw [if_neg h, beq_eq_false_iff_ne.mpr (Ne.symm h)]; simp

end Cert.Quant
-- ==== Proof.Step.lean ====
module

public import proofs.«01_k».proof.Proof.Gen.KernelIdeal.Skeleton
public import Idealize.ShloMosaic.Lib.Pipeline.ValueKit
public import proofs.«01_k».proof.Proof.Words

/-! The kernel body's step, read at an element: what the accumulator held, plus the sum over the block's 1024 weight
    rows of the activation times the dequantised weight, the weight being its code times the scale that the one-hot
    row picks out of the 64 groups. -/

@[expose] public section

set_option maxRecDepth 16384

noncomputable section

open scoped BigOperators
open Idealize.ShloMosaic Idealize.ShloMosaic.TcCoe Idealize.SL.Sem

namespace Cert.KernelIdeal.Value

open Cert.KernelIdeal Cert.KernelIdeal.Gen Cert.Quant

/-- Bits of the word the kernel reads four packed rows of a column as: the byte of row `p` lies at bits `8 (p % 4)`
    and up of word `p / 4`. -/
theorem word_bits (x1 : Vec Ideal S512x512 .i8) (a : Fin 128) (l : Fin 512) (p : Fin 512) (q : ℕ) (hq : q < 32)
    (hp : p.val = 4 * a.val + q / 8) :
    (bitcast S128x512 32 x1 bitcasts_S512x512_w8_S128x512_w32 (ix2 a l)).getLsbD q = (x1 (ix2 p l)).getLsbD (q % 8) := by
  have e1 : (ix2 a l : S128x512.Idx) = ValueIdx.ix2 a l := by funext d; match d with | ⟨0, _⟩ => rfl | ⟨1, _⟩ => rfl
  have e2 : (ix2 p l : S512x512.Idx) = ValueIdx.ix2 p l := by funext d; match d with | ⟨0, _⟩ => rfl | ⟨1, _⟩ => rfl
  rw [e1, e2]
  exact bitcast_8_32_getLsbD_ix2 x1 bitcasts_S512x512_w8_S128x512_w32 a l q hq p hp

/-- The step at element `(p, q)` of the accumulator. -/
theorem step_apply (x1 : Vec Ideal S512x512 .i8) (x3 : Vec Ideal S1x1x1024 .i32) (x2 : Vec Ideal S64x512 .bf16)
    (acc : Vec Ideal S192x512 .f32) (x0 : Vec Ideal S192x1024 .bf16) (p : Fin 192) (q : Fin 512) :
    k0_pay3 (F := Ideal) x1 x3 x2 acc x0 (ix2 p q)
      = (show EReal from acc (ix2 p q)) + ∑ r : Fin 1024, (show EReal from x0 (ix2 p r))
        * (code (x1 (ix2 (⟨r.val / 2, by omega⟩ : Fin 512) q)) (r.val % 2)
            * ∑ g : Fin 64, ind (x3 (ix3 0 0 r)) g.val * (show EReal from x2 (ix2 g q))) := by
  pointwise [k0_pay3]
  refine congrArg₂ (· + ·) rfl (Finset.sum_congr rfl fun r _ => congrArg₂ (· * ·) rfl (congrArg₂ (· * ·) ?_ ?_))
  · have hr : r.val % 2 = r.val % 8 % 2 := by omega
    rw [hr]
    exact code_kernel _ _ (r.val % 8) (by omega) fun b hb hbr => word_bits x1 _ q _ b hb (by
      show r.val / 2 = 4 * (r.val / 8) + b / 8
      omega)
  · exact Finset.sum_congr rfl fun g _ => congrArg₂ (· * ·) (ind_kernel _ _) rfl

/-- The block the first point of a run starts from is zero everywhere. -/
theorem zero_apply (i : S192x512.Idx) : k0_pay2 (F := Ideal) i = (0 : EReal) := by
  pointwise [k0_pay2]

/-- Rounding the accumulator to the output's format changes no real number. -/
theorem round_apply (v : Vec Ideal S192x512 .f32) (i : S192x512.Idx) : k0_pay1 (F := Ideal) v i = v i := by
  pointwise [k0_pay1]

end Cert.KernelIdeal.Value
-- ==== Proof.Blocks.lean ====
module

public import proofs.«01_k».proof.Proof.Gen.KernelIdeal.Value
public import Idealize.ShloMosaic.Lib.Pipeline.ValueKit

/-! The blocks the kernel reads at each of its 112 points, as elements of its four arguments. -/

@[expose] public section

set_option maxRecDepth 16384

noncomputable section

open scoped BigOperators
open Idealize.ShloMosaic Idealize.ShloMosaic.TcCoe Idealize.SL.Sem

namespace Cert.KernelIdeal.Value

open Cert.KernelIdeal Cert.KernelIdeal.Gen

variable (m : (ℓ : Loc nD τ sig) → Buf (Elt Ideal) ℓ)

/-- The blocks the windows read at point `t`, decided over the grid: with `k = t % 8` the block of weight rows and
    `j = t / 8` the block of columns, activations `(0, k)`, packed weight `(k, j)`, scales `(0, j)`, group indices
    `(k, 0, 0)`. -/
theorem idx : ∀ t : Fin cfg0.N, win0_0.index t = ![0, t.val % 8] ∧ win0_1.index t = ![t.val % 8, t.val / 8]
    ∧ win0_2.index t = ![0, t.val / 8] ∧ win0_3.index t = ![t.val % 8, 0, 0] :=
  (by decide +kernel : ∀ t : Fin grid0.N, _)

/-- Dropping the middle axis of one reads the same element. -/
theorem cast_x (X : Vec Ideal S192x1x8192 .bf16) (i : Fin 192) (k : Fin 8192) :
    shapeCast S192x8192 X shapeCasts_S192x1x8192_S192x8192 (ix2 i k) = X (ix3 i 0 k) := by
  pointwise

/-- Cutting the group indices into eight rows reads index `1024 b + r` at `(b, r)`. -/
theorem cast_g (X : Vec Ideal S8192 .i32) (b : Fin 8) (r : Fin 1024) :
    shapeCast S8x1x1024 X shapeCasts_S8192_S8x1x1024 (ix3 b 0 r) = X (ix1 ⟨b.val * 1024 + r.val, by omega⟩) := by
  pointwise

/-- The array the activation window reads is the activation argument without its middle axis of one. -/
theorem V_x (c : Dev nD) : (V m c main_v0 : Vec Ideal S192x8192 .bf16)
    = shapeCast S192x8192 (m ((c : Thread nD τ).loc main_arg0)) shapeCasts_S192x1x8192_S192x8192 := by
  unfold V
  after_results
  rfl

/-- The array the group-index window reads is the group-index argument cut into eight rows. -/
theorem V_g (c : Dev nD) : (V m c main_v1 : Vec Ideal S8x1x1024 .i32)
    = shapeCast S8x1x1024 (m ((c : Thread nD τ).loc main_arg3)) shapeCasts_S8192_S8x1x1024 := by
  unfold V
  after_results
  rfl

/-- The activation block of point `t`: columns from `1024 (t % 8)` of the activations. -/
theorem iblk0_apply (c : Dev nD) (t : Fin cfg0.N) (p : Fin 192) (r : Fin 1024) :
    (iblk m c 0 t : Vec Ideal S192x1024 .bf16) (ix2 p r)
      = m ((c : Thread nD τ).loc main_arg0) (ix3 p 0 ⟨t.val % 8 * 1024 + r.val, by omega⟩) := by
  refine Eq.trans ?_ ((congrFun (V_x m c) (ix2 p ⟨t.val % 8 * 1024 + r.val, by omega⟩)).trans (cast_x _ _ _))
  unfold iblk
  rw [View.read_apply]
  show V m c main_v0 _ = V m c main_v0 _
  congr 1
  funext a
  apply Fin.ext
  match a with
  | ⟨0, _⟩ => show win0_0.index t 0 * 192 + 1 * p.val = p.val; rw [(idx t).1]; simp
  | ⟨1, _⟩ => show win0_0.index t 1 * 1024 + 1 * r.val = t.val % 8 * 1024 + r.val; rw [(idx t).1]; simp

/-- The packed-weight block of point `t`: rows from `512 (t % 8)`, columns from `512 (t / 8)`. -/
theorem iblk1_apply (c : Dev nD) (t : Fin cfg0.N) (p : Fin 512) (q : Fin 512) (h0 : t.val % 8 * 512 + p.val < 4096)
    (h1 : t.val / 8 * 512 + q.val < 7168) :
    (iblk m c 1 t : Vec Ideal S512x512 .i8) (ix2 p q)
      = m ((c : Thread nD τ).loc main_arg1) (ix2 (⟨t.val % 8 * 512 + p.val, h0⟩ : Fin 4096) (⟨t.val / 8 * 512 + q.val, h1⟩ : Fin 7168)) := by
  refine Eq.trans ?_ (congrFun (V_main_arg1 m c) _)
  unfold iblk
  rw [View.read_apply]
  show V m c main_arg1 _ = V m c main_arg1 _
  congr 1
  funext a
  apply Fin.ext
  match a with
  | ⟨0, _⟩ => show win0_1.index t 0 * 512 + 1 * p.val = t.val % 8 * 512 + p.val; rw [(idx t).2.1]; simp
  | ⟨1, _⟩ => show win0_1.index t 1 * 512 + 1 * q.val = t.val / 8 * 512 + q.val; rw [(idx t).2.1]; simp

/-- The scale block of point `t`: all 64 groups, columns from `512 (t / 8)`. -/
theorem iblk2_apply (c : Dev nD) (t : Fin cfg0.N) (g : Fin 64) (q : Fin 512) (h1 : t.val / 8 * 512 + q.val < 7168) :
    (iblk m c 2 t : Vec Ideal S64x512 .bf16) (ix2 g q)
      = m ((c : Thread nD τ).loc main_arg2) (ix2 g (⟨t.val / 8 * 512 + q.val, h1⟩ : Fin 7168)) := by
  refine Eq.trans ?_ (congrFun (V_main_arg2 m c) _)
  unfold iblk
  rw [View.read_apply]
  show V m c main_arg2 _ = V m c main_arg2 _
  congr 1
  funext a
  apply Fin.ext
  match a with
  | ⟨0, _⟩ => show win0_2.index t 0 * 64 + 1 * g.val = g.val; rw [(idx t).2.2.1]; simp
  | ⟨1, _⟩ => show win0_2.index t 1 * 512 + 1 * q.val = t.val / 8 * 512 + q.val; rw [(idx t).2.2.1]; simp

/-- The group-index block of point `t`: the 1024 indices from `1024 (t % 8)`. -/
theorem iblk3_apply (c : Dev nD) (t : Fin cfg0.N) (r : Fin 1024) :
    (iblk m c 3 t : Vec Ideal S1x1x1024 .i32) (ix3 0 0 r)
      = m ((c : Thread nD τ).loc main_arg3) (ix1 ⟨t.val % 8 * 1024 + r.val, by omega⟩) := by
  refine Eq.trans ?_ ((congrFun (V_g m c) (ix3 ⟨t.val % 8, by omega⟩ 0 r)).trans (cast_g _ _ _))
  unfold iblk
  rw [View.read_apply]
  show V m c main_v1 _ = V m c main_v1 _
  congr 1
  funext a
  apply Fin.ext
  match a with
  | ⟨0, _⟩ => show win0_3.index t 0 * 1 + 1 * 0 = t.val % 8; rw [(idx t).2.2.2]; simp
  | ⟨1, _⟩ => show win0_3.index t 1 * 1 + 1 * 0 = 0; rw [(idx t).2.2.2]; simp
  | ⟨2, _⟩ => show win0_3.index t 2 * 1024 + 1 * r.val = r.val; rw [(idx t).2.2.2]; simp

end Cert.KernelIdeal.Value
-- ==== Proof.Product.lean ====
module

public import Idealize.ShloMosaic.Lib.Pipeline.ValueKit
public import proofs.«01_k».proof.Proof.Words

/-! The mathematics both programs compute: the product of the activations with the dequantised weight, over all 8192
    weight rows. Row `k` of the weight is field `k % 2` of packed row `k / 2`, its scale the row of the scale table
    that the group index of `k` names. The two programs add the 8192 terms in different orders: the kernel block by
    block, the reference the even rows and the odd rows apart. -/

@[expose] public section

noncomputable section

open scoped BigOperators
open Idealize.ShloMosaic

namespace Cert.Quant

/-- The dequantised weight at row `k` and column `n`: the code times the scale picked out of the 64 groups. -/
def weight (w : Fin 4096 → Fin 7168 → BitVec 8) (s : Fin 64 → Fin 7168 → EReal) (g : Fin 8192 → BitVec 32)
    (k : Fin 8192) (n : Fin 7168) : EReal :=
  code (w ⟨k.val / 2, by omega⟩ n) (k.val % 2) * ∑ a : Fin 64, ind (g k) a.val * s a n

/-- The product at row `i` and column `n`: the sum over the 8192 weight rows. -/
def product (x : Fin 192 → Fin 8192 → EReal) (w : Fin 4096 → Fin 7168 → BitVec 8) (s : Fin 64 → Fin 7168 → EReal)
    (g : Fin 8192 → BitVec 32) (i : Fin 192) (n : Fin 7168) : EReal :=
  ∑ k : Fin 8192, x i k * weight w s g k n

variable {x : Fin 192 → Fin 8192 → EReal} {w : Fin 4096 → Fin 7168 → BitVec 8} {s : Fin 64 → Fin 7168 → EReal}
  {g : Fin 8192 → BitVec 32}

/-- Eight blocks of 1024 rows, each added up and the eight sums added, are the product. -/
theorem sum_blocks (i : Fin 192) (n : Fin 7168) :
    (∑ b : Fin 8, ∑ r : Fin 1024, x i ⟨b.val * 1024 + r.val, by omega⟩ * weight w s g ⟨b.val * 1024 + r.val, by omega⟩ n)
      = product x w s g i n :=
  Fin.sum_mul_add_fin 8 1024 fun k : Fin 8192 => x i k * weight w s g k n

/-- The even rows and the odd rows, each added up and the two sums added, are the product. -/
theorem sum_halves (i : Fin 192) (n : Fin 7168) :
    (∑ h : Fin 2, ∑ p : Fin 4096, x i ⟨p.val * 2 + h.val, by omega⟩ * weight w s g ⟨p.val * 2 + h.val, by omega⟩ n)
      = product x w s g i n := by
  rw [Finset.sum_comm]
  exact Fin.sum_mul_add_fin 4096 2 fun k : Fin 8192 => x i k * weight w s g k n

end Cert.Quant
-- ==== Proof.Array.lean ====
module

public import proofs.«01_k».proof.Proof.Case
public import proofs.«01_k».proof.Proof.Step
public import proofs.«01_k».proof.Proof.Blocks
public import proofs.«01_k».proof.Proof.Product

/-! What the output array holds after the kernel: the product. The accumulator after the last of the eight points that
    share an output block is the sum of the eight block products, and the output array takes it from there. -/

@[expose] public section

set_option maxRecDepth 16384

noncomputable section

open scoped BigOperators
open Idealize.ShloMosaic Idealize.ShloMosaic.TcCoe Idealize.SL.Sem

namespace Cert.KernelIdeal.Value

open Cert.KernelIdeal Cert.KernelIdeal.Gen Cert.Quant

variable (m : (ℓ : Loc nD τ sig) → Buf (Elt Ideal) ℓ)

/-- The activations, as rows and columns. -/
def argX (c : Dev nD) (a : Fin 192) (b : Fin 8192) : EReal := m ((c : Thread nD τ).loc main_arg0) (ix3 a 0 b)

/-- The packed weight, as rows and columns. -/
def argW (c : Dev nD) (a : Fin 4096) (b : Fin 7168) : BitVec 8 := m ((c : Thread nD τ).loc main_arg1) (ix2 a b)

/-- The scales, as groups and columns. -/
def argS (c : Dev nD) (a : Fin 64) (b : Fin 7168) : EReal := m ((c : Thread nD τ).loc main_arg2) (ix2 a b)

/-- The group index of each weight row. -/
def argG (c : Dev nD) (a : Fin 8192) : BitVec 32 := m ((c : Thread nD τ).loc main_arg3) (ix1 a)

/-- What point `t` adds at element `(p, q)` of the accumulator: the products of its 1024 weight rows. -/
def part (c : Dev nD) (t : Fin cfg0.N) (i : S192x512.Idx) : EReal :=
  ∑ r : Fin 1024, argX m c (i 0) ⟨t.val % 8 * 1024 + r.val, by omega⟩
    * weight (argW m c) (argS m c) (argG m c) ⟨t.val % 8 * 1024 + r.val, by omega⟩
        ⟨t.val / 8 * 512 + (i 1).val, by
          have h1 : (i 1).val < 512 := (i 1).isLt
          have ht := lt_of_lt_of_eq t.isLt (show cfg0.N = 112 from N_0)
          omega⟩

/-- The step at point `t` adds that point's part. -/
theorem step_block (c : Dev nD) (t : Fin cfg0.N) (acc : Vec Ideal S192x512 .f32) (i : S192x512.Idx) :
    k0_pay3 (F := Ideal) (iblk m c 1 t) (iblk m c 3 t) (iblk m c 2 t) acc (iblk m c 0 t) i
      = (show EReal from acc i) + part m c t i := by
  have ht := lt_of_lt_of_eq t.isLt (show cfg0.N = 112 from N_0)
  obtain ⟨p, q, rfl⟩ : ∃ (p : Fin 192) (q : Fin 512), i = ix2 p q :=
    ⟨i 0, i 1, funext fun a => by match a with | ⟨0, _⟩ => rfl | ⟨1, _⟩ => rfl⟩
  rw [step_apply]
  refine congrArg₂ (· + ·) rfl (Finset.sum_congr rfl fun r _ => congrArg₂ (· * ·) (iblk0_apply m c t p r) ?_)
  unfold weight
  refine congrArg₂ (· * ·) ?_ (Finset.sum_congr rfl fun g _ => congrArg₂ (· * ·) ?_ ?_)
  · rw [iblk1_apply m c t _ q (by dsimp only; omega) (by omega)]
    have e1 : (⟨t.val % 8 * 512 + r.val / 2, by omega⟩ : Fin 4096) = ⟨(t.val % 8 * 1024 + r.val) / 2, by omega⟩ :=
      Fin.ext (by show t.val % 8 * 512 + r.val / 2 = (t.val % 8 * 1024 + r.val) / 2; omega)
    have e2 : r.val % 2 = (t.val % 8 * 1024 + r.val) % 2 := by omega
    show code (argW m c ⟨t.val % 8 * 512 + r.val / 2, _⟩ _) (r.val % 2) = _
    rw [e1, e2]
    rfl
  · rw [iblk3_apply m c t r]
    rfl
  · exact iblk2_apply m c t g q (by omega)

/-- The accumulator after the last point of a run is the sum of the run's eight parts. -/
theorem acc_apply (c : Dev nD) (t : Fin cfg0.N) (h : t.val % 8 = 7) (i : S192x512.Idx) :
    ((outsAt0 m c t.val t.isLt).2 : Vec Ideal S192x512 .f32) i
      = ∑ s : Fin 8, part m c ⟨8 * (t.val / 8) + s.val, by omega⟩ i := by
  have e := Pipeline.eq_sum_fin_of_reset_step_apply_of_flush (M := EReal)
    (fun n h => ((outsAt0 m c n h).2 : Vec Ideal S192x512 .f32)) 8 (fun _ => 0) (part m c)
    (fun t h0 i => by
      rw [outsAt0_A m c t h0 (by omega)]
      dsimp only
      rw [sout_A, step_block, zero_apply])
    (fun t h0 i => by
      by_cases h1 : t.val % 8 = 7
      · rw [outsAt0_C m c t h0 h1]
        dsimp only
        rw [sout_C, step_block]
      · rw [outsAt0_B m c t h0 h1]
        dsimp only
        rw [sout_B, step_block])
    t h i
  rw [e, zero_add]

/-- The output block after the last point of a run is the accumulator after it. -/
theorem out_apply (c : Dev nD) (t : Fin cfg0.N) (h : t.val % 8 = 7) (i : S192x512.Idx) :
    ((outsAt0 m c t.val t.isLt).1 : Vec Ideal S192x512 .bf16) i = ((outsAt0 m c t.val t.isLt).2 : Vec Ideal S192x512 .f32) i := by
  rw [outsAt0_C m c t (by omega) h]
  dsimp only
  rw [out_C, sout_C, round_apply]

/-- The output array after the kernel, at element `(i, n)`: the product. -/
theorem array_apply (c : Dev nD) (i : Fin 192) (n : Fin 7168) :
    (G4 m c : Vec Ideal S192x7168 .bf16) (ix2 i n) = product (argX m c) (argW m c) (argS m c) (argG m c) i n := by
  have hN : cfg0.N = 112 := N_0
  have hr : run4Of (ix2 i n) = n.val / 512 := by
    show 14 * (i.val / 192 - 0) + 1 * (n.val / 512 - 0) = n.val / 512
    omega
  have hp : pt4Of (ix2 i n) < cfg0.N := by
    rw [hN]; unfold pt4Of; rw [hr]; omega
  unfold G4
  rw [dif_pos hp, ← outsAt0_sweep m c (pt4Of (ix2 i n)) hp]
  have h7 : pt4Of (ix2 i n) % 8 = 7 := by unfold pt4Of; omega
  have h8 : pt4Of (ix2 i n) / 8 = n.val / 512 := by unfold pt4Of; rw [hr]; omega
  refine (out_apply m c ⟨pt4Of (ix2 i n), hp⟩ h7 _).trans ((acc_apply m c ⟨pt4Of (ix2 i n), hp⟩ h7 _).trans ?_)
  rw [← sum_blocks]
  refine Finset.sum_congr rfl fun s _ => Finset.sum_congr rfl fun r _ => ?_
  have e0 : (loc4Of (ix2 i n) 0 : Fin 192) = i := Fin.ext (by show i.val % 192 = i.val; omega)
  have ek : (8 * (pt4Of (ix2 i n) / 8) + s.val) % 8 = s.val := by omega
  have en : (8 * (pt4Of (ix2 i n) / 8) + s.val) / 8 * 512 + n.val % 512 = n.val := by rw [h8]; omega
  refine congrArg₂ (· * ·) (congrArg₂ (argX m c) e0 (Fin.ext ?_))
    (congrArg₂ (weight (argW m c) (argS m c) (argG m c)) (Fin.ext ?_) (Fin.ext ?_))
  · show (8 * (pt4Of (ix2 i n) / 8) + s.val) % 8 * 1024 + r.val = s.val * 1024 + r.val
    rw [ek]
  · show (8 * (pt4Of (ix2 i n) / 8) + s.val) % 8 * 1024 + r.val = s.val * 1024 + r.val
    rw [ek]
  · exact en

end Cert.KernelIdeal.Value
-- ==== Proof.Reference.lean ====
module

public import proofs.«01_k».proof.Proof.Gen.ReferenceIdeal.Read
public import Idealize.ShloMosaic.Lib.Pipeline.ValueKit
public import Idealize.ShloMosaic.Lib.TwoAxisContraction
public import proofs.«01_k».proof.Proof.Product

/-! The reference's result, read at an element: it is the product. -/

@[expose] public section

set_option maxRecDepth 16384

noncomputable section

open scoped BigOperators
open Idealize.ShloMosaic Idealize.ShloMosaic.TcCoe Idealize.SL.Sem

namespace Cert.ReferenceIdeal.Read

open Cert.ReferenceIdeal Cert.ReferenceIdeal.Gen Cert.Quant

/-- The reference's weight of half `h` (0 the even rows, 1 the odd rows) at packed row `p`: the dequantised weight of
    row `2 p + h`. -/
theorem weight_apply (x1 : Vec Ideal S4096x7168 .i8) (x2 : Vec Ideal S64x7168 .bf16) (x3 : Vec Ideal S8192 .i32)
    (h : Fin 2) (p : Fin 4096) (n : Fin 7168) :
    val_main_v25 (F := Ideal) x1 x2 x3 (ix3 h p n)
      = weight (fun a b => x1 (ix2 a b)) (fun a b => x2 (ix2 a b)) (fun a => x3 (ix1 a)) ⟨p.val * 2 + h.val, by omega⟩ n := by
  unfold val_main_v25 val_main_v24 val_main_v22 val_main_v21 val_main_v19 val_main_v17 val_main_v15 val_main_v14
    val_main_v18 val_main_v16 val_main_v13 val_main_v12 val_main_c val_main_v11 val_main_v20 val_main_c_0 val_main_v23
    val_main_cst val_main_v10 val_main_v9 val_main_v8 val_main_v7 val_main_v6 val_main_v5 val_main_v4 val_main_v3
    val_main_v2 val_main_v1 val_main_v0
  pointwise
  have e1 : (⟨(p.val * 2 + h.val) / 2, by omega⟩ : Fin 4096) = p := Fin.ext (by show (p.val * 2 + h.val) / 2 = p.val; omega)
  have e2 : (p.val * 2 + h.val) % 2 = h.val := by omega
  unfold weight
  refine congrArg₂ (· * ·) ?_ (Finset.sum_congr rfl fun g _ => congrArg₂ (· * ·) (ind_reference _ _) rfl)
  dsimp only
  rw [e1, e2]
  exact code_reference _ h

/-- The reference's result at element `(i, n)` is the product. -/
theorem result_apply (x0 : Vec Ideal S192x1x8192 .bf16) (x1 : Vec Ideal S4096x7168 .i8) (x2 : Vec Ideal S64x7168 .bf16)
    (x3 : Vec Ideal S8192 .i32) (i : Fin 192) (n : Fin 7168) :
    val_main_v29 (F := Ideal) x0 x1 x2 x3 (ix2 i n)
      = product (fun a b => x0 (ix3 a 0 b)) (fun a b => x1 (ix2 a b)) (fun a b => x2 (ix2 a b)) (fun a => x3 (ix1 a)) i n := by
  rw [← sum_halves]
  simp only [← weight_apply]
  unfold val_main_v29 val_main_v28 val_main_v27 val_main_v26
  generalize val_main_v25 (F := Ideal) x1 x2 x3 = y
  pointwise

end Cert.ReferenceIdeal.Read
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Array
public import proofs.«01_k».proof.Proof.Reference

/-! The certificate: both forms of the kernel and the reference run and leave their arguments alone, and at exact
    arithmetic the kernel's result equals the reference's, element by element. -/

@[expose] public section

set_option maxRecDepth 16384

noncomputable section

open Idealize.ShloMosaic Idealize.ShloMosaic.TcCoe Idealize.SL.Sem

namespace Cert.Proof

/-- The kernel runs at bit-exact arithmetic and leaves its arguments unchanged. -/
theorem frame_kernel : Cert.quiescent_Kernel := fun m ρ _ => Cert.Kernel.Gen.frame m ρ

/-- The kernel runs at exact arithmetic and leaves its arguments unchanged. -/
theorem frame_ideal : Cert.quiescent_KernelIdeal := fun m ρ _ => Cert.KernelIdeal.Gen.frame m ρ

/-- The reference runs at exact arithmetic and leaves its arguments unchanged. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The exact form of the kernel is the kernel with its arithmetic made exact and nothing else changed. -/
theorem preserves : Cert.preserves_Kernel_KernelIdeal := trivial

/-- From equal arguments the kernel's result array and the reference's result are the same array of extended reals:
    at every element both are the product of the activations with the dequantised weight. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      = Cert.KernelIdeal.Value.G4 m c := by
  funext j
  obtain ⟨i, n, rfl⟩ : ∃ (i : Fin 192) (n : Fin 7168), j = ix2 i n :=
    ⟨j 0, j 1, funext fun a => by match a with | ⟨0, _⟩ => rfl | ⟨1, _⟩ => rfl⟩
  exact (Cert.ReferenceIdeal.Read.result_apply _ _ _ _ i n).trans (Cert.KernelIdeal.Value.array_apply m c i n).symm

/-- At exact arithmetic the kernel and the reference end with equal results. -/
theorem algebraic : Cert.algebraic_KernelIdeal_ReferenceIdeal := by
  intro m ρ m' ρ' _ hagree
  refine ⟨fun c => Cert.KernelIdeal.Value.G4 m c, Cert.KernelIdeal.Value.run (F := Ideal) m ρ, ?_⟩
  refine (θ_run Cert.ReferenceIdeal.defs _ _).mono (fun _ h c => ?_) (Cert.ReferenceIdeal.Value.run (F := Ideal) m' ρ')
  refine ⟨(h c).1.trans ?_, (h c).2⟩
  obtain ⟨e0, e1, e2, e3⟩ := hagree c
  rw [Cert.ReferenceIdeal.Read.val_main_v29_eq, e0, e1, e2, e3]
  exact result_eq m c

/-- Everything the certificate claims. -/
theorem claim : Cert.Claim :=
  ⟨Cert.Kernel.Gen.facts, Cert.KernelIdeal.Gen.facts, Cert.ReferenceIdeal.Gen.facts,
    frame_kernel, frame_ideal, frame_reference, preserves, algebraic⟩

end Cert.Proof
